-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x5120 : Shape := ⟨3, ![4, 512, 5120]⟩
abbrev S4x512 : Shape := ⟨2, ![4, 512]⟩
abbrev S5120x128 : Shape := ⟨2, ![5120, 128]⟩
abbrev S4x512x2 : Shape := ⟨3, ![4, 512, 2]⟩
abbrev S2048x5120 : Shape := ⟨2, ![2048, 5120]⟩
abbrev S1x2048 : Shape := ⟨2, ![1, 2048]⟩
abbrev S2048x2 : Shape := ⟨2, ![2048, 2]⟩
abbrev S2x2048 : Shape := ⟨2, ![2, 2048]⟩
abbrev S2048x128 : Shape := ⟨2, ![2048, 128]⟩
abbrev S256x5120 : Shape := ⟨2, ![256, 5120]⟩
abbrev S1x256 : Shape := ⟨2, ![1, 256]⟩
abbrev S2x256 : Shape := ⟨2, ![2, 256]⟩
abbrev S256x128 : Shape := ⟨2, ![256, 128]⟩
abbrev S128x5120 : Shape := ⟨2, ![128, 5120]⟩
abbrev S128x256 : Shape := ⟨2, ![128, 256]⟩
abbrev S256 : Shape := ⟨1, ![256]⟩

abbrev nBuf : Space → Nat
  | .hbm => 14
  | .vmem => 16
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S2048x5120, .fp8e4m3⟩
  | .hbm, ⟨6, _⟩ => ⟨S1x2048, .f32⟩
  | .hbm, ⟨7, _⟩ => ⟨S2048x2, .i32⟩
  | .hbm, ⟨8, _⟩ => ⟨S2x2048, .i32⟩
  | .hbm, ⟨9, _⟩ => ⟨S2048x2, .bf16⟩
  | .hbm, ⟨10, _⟩ => ⟨S2x2048, .bf16⟩
  | .hbm, ⟨11, _⟩ => ⟨S2048x5120, .bf16⟩
  | .hbm, ⟨12, _⟩ => ⟨S5120x128, .f32⟩
  | .hbm, ⟨13, _⟩ => ⟨S2048x128, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S1x256, .f32⟩
  | .local _ .vmem, ⟨3, _⟩ => ⟨S1x256, .f32⟩
  | .local _ .vmem, ⟨4, _⟩ => ⟨S5120x128, .bf16⟩
  | .local _ .vmem, ⟨5, _⟩ => ⟨S2x256, .i32⟩
  | .local _ .vmem, ⟨6, _⟩ => ⟨S2x256, .i32⟩
  | .local _ .vmem, ⟨7, _⟩ => ⟨S2x256, .bf16⟩
  | .local _ .vmem, ⟨8, _⟩ => ⟨S2x256, .bf16⟩
  | .local _ .vmem, ⟨9, _⟩ => ⟨S256x5120, .bf16⟩
  | .local _ .vmem, ⟨10, _⟩ => ⟨S256x5120, .bf16⟩
  | .local _ .vmem, ⟨11, _⟩ => ⟨S5120x128, .f32⟩
  | .local _ .vmem, ⟨12, _⟩ => ⟨S256x128, .f32⟩
  | .local _ .vmem, ⟨13, _⟩ => ⟨S256x128, .f32⟩
  | .local _ .vmem, ⟨14, _⟩ => ⟨S128x5120, .bf16⟩
  | .local _ .vmem, ⟨15, _⟩ => ⟨S128x5120, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v89 : BitVec 1 := Scalar.cmpi .eq arg0 c7_i32
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x512x5120 : Shape := ⟨3, ![4, 512, 5120]⟩
abbrev S4x512 : Shape := ⟨2, ![4, 512]⟩
abbrev S5120x128 : Shape := ⟨2, ![5120, 128]⟩
abbrev S4x512x2 : Shape := ⟨3, ![4, 512, 2]⟩
abbrev S2048x5120 : Shape := ⟨2, ![2048, 5120]⟩
abbrev S2048x1 : Shape := ⟨2, ![2048, 1]⟩
abbrev S2048x2 : Shape := ⟨2, ![2048, 2]⟩
abbrev S2048x128 : Shape := ⟨2, ![2048, 128]⟩
abbrev S2048x2x1 : Shape := ⟨3, ![2048, 2, 1]⟩
abbrev S2048x2x128 : Shape := ⟨3, ![2048, 2, 128]⟩
abbrev S2048x1x128 : Shape := ⟨3, ![2048, 1, 128]⟩
abbrev S2048 : Shape := ⟨1, ![2048]⟩

abbrev nBuf : Space → Nat
  | .hbm => 12
  | .vmem => 8
  | .smem => 0
  | _ => 0

abbrev bufTy : (tb : Table) → Fin (tcTables nBuf tb) → BufTy
  | .hbm, ⟨0, _⟩ => ⟨S4x512x5120, .fp8e4m3⟩
  | .hbm, ⟨1, _⟩ => ⟨S4x512, .f32⟩
  | .hbm, ⟨2, _⟩ => ⟨S5120x128, .bf16⟩
  | .hbm, ⟨3, _⟩ => ⟨S4x512x2, .i32⟩
  | .hbm, ⟨4, _⟩ => ⟨S4x512x2, .bf16⟩
  | .hbm, ⟨5, _⟩ => ⟨S2048x5120, .fp8e4m3⟩
  | .hbm, ⟨6, _⟩ => ⟨S2048x1, .f32⟩
  | .hbm, ⟨7, _⟩ => ⟨S2048x2, .i32⟩
  | .hbm, ⟨8, _⟩ => ⟨S2048x2, .bf16⟩
  | .hbm, ⟨9, _⟩ => ⟨S2048x5120, .bf16⟩
  | .hbm, ⟨10, _⟩ => ⟨S5120x128, .f32⟩
  | .hbm, ⟨11, _⟩ => ⟨S2048x128, .f32⟩
  | .local _ .vmem, ⟨0, _⟩ => ⟨S2048x5120, .fp8e4m3⟩
  | .local _ .vmem, ⟨1, _⟩ => ⟨S2048x1, .f32⟩
  | .local _ .vmem, ⟨2, _⟩ => ⟨S5120x128, .bf16⟩
  | .local _ .vmem, ⟨3, _⟩ => ⟨S2048x2, .i32⟩
  | .local _ .vmem, ⟨4, _⟩ => ⟨S2048x2, .bf16⟩
  | .local _ .vmem, ⟨5, _⟩ => ⟨S2048x5120, .bf16⟩
  | .local _ .vmem, ⟨6, _⟩ => ⟨S5120x128, .f32⟩
  | .local _ .vmem, ⟨7, _⟩ => ⟨S2048x128, .f32⟩
  | _, _ => ⟨S4x512x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Cases.lean ====
module

public import proofs.«01_k».proof.Proof.Gen.KernelIdeal.Value
public import Idealize.ShloMosaic.Lib.Pointwise
public import Idealize.ShloMosaic.Lib.Tactic

@[expose] public section
set_option maxRecDepth 16384

noncomputable section

/-!
# What one grid point of the kernel leaves

The kernel has three cases of a grid point: the first (which fills the transposed weight and zeroes
the weight gradient), the middle ones, and the last (which writes the weight gradient out). Here each
buffer a case leaves is written as a function of the five blocks it reads, of the transposed weight it
reads from its scratch and of the gradient it adds to.
-/

namespace Cert.KernelIdeal.Cases
open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Row 0 of a block of two rows. -/
def row0 (dg : Vec F S2x256 .bf16) : Vec F S1x256 .bf16 :=
  View.ld dg (Rect.unit (s := S2x256) ![0, 0] S1x256.size inb_S2x256_S1x256_0_0)

/-- Row 1 of a block of two rows. -/
def row1 (dg : Vec F S2x256 .bf16) : Vec F S1x256 .bf16 :=
  View.ld dg (Rect.unit (s := S2x256) ![1, 0] S1x256.size inb_S2x256_S1x256_1_0)

section
variable (x : Vec F S256x5120 .fp8e4m3) (s : Vec F S1x256 .f32) (wt : Vec F S128x5120 .bf16)
  (ids : Vec F S2x256 .i32) (dg : Vec F S2x256 .bf16)

/-- A block's gradient of the logits, one column per token. -/
def blkDl : FVec F S128x256 .f32 :=
  k0_pay16 (F := F) (k0_pay9 ids) (k0_pay10 ids) (k0_pay11 x s wt ids) (k0_pay12 x s wt ids)
    (k0_pay13 (row0 dg)) (k0_pay14 (row1 dg)) (k0_pay15 x s wt ids)

/-- A block's gradient of the logits, one row per token. -/
def blkDlT : FVec F S256x128 .f32 :=
  k0_pay18 (F := F) (k0_pay9 ids) (k0_pay10 ids) (k0_pay11 x s wt ids) (k0_pay12 x s wt ids)
    (k0_pay13 (row0 dg)) (k0_pay14 (row1 dg)) (k0_pay15 x s wt ids)

/-- A block's gradient of the tokens. -/
def blkDx : FVec F S256x5120 .bf16 :=
  k0_pay19 (F := F) (k0_pay9 ids) (k0_pay10 ids) (k0_pay11 x s wt ids) (k0_pay12 x s wt ids)
    (k0_pay13 (row0 dg)) (k0_pay14 (row1 dg)) (k0_pay15 x s wt ids) wt

/-- The transposed weight gradient `acc` with a block's share added. -/
def blkAcc (acc : Vec F S128x5120 .f32) : FVec F S128x5120 .f32 :=
  k0_pay1 (F := F) (k0_pay5 x) (k0_pay17 (k0_pay6 s) (k0_pay9 ids) (k0_pay10 ids) (k0_pay11 x s wt ids)
    (k0_pay12 x s wt ids) (k0_pay13 (row0 dg)) (k0_pay14 (row1 dg)) (k0_pay15 x s wt ids)) acc

end

section
variable (c : Dev nD) (i : grid0.Coords)
  (a1 : Memref sig .tc .vmem S256x5120 .fp8e4m3) (h1 : a1.IsWhole)
  (a2 : Memref sig .tc .vmem S1x256 .f32) (h2 : a2.IsWhole)
  (a3 : Memref sig .tc .vmem S5120x128 .bf16) (h3 : a3.IsWhole)
  (a4 : Memref sig .tc .vmem S2x256 .i32) (h4 : a4.IsWhole)
  (a5 : Memref sig .tc .vmem S2x256 .bf16) (h5 : a5.IsWhole)
  (a6 : Memref sig .tc .vmem S256x5120 .bf16) (h6 : a6.IsWhole)
  (a7 : Memref sig .tc .vmem S5120x128 .f32) (h7 : a7.IsWhole)
  (a8 : Memref sig .tc .vmem S256x128 .f32) (h8 : a8.IsWhole)
  (a9 : Memref sig .tc .vmem S128x5120 .bf16) (h9 : a9.IsWhole)
  (a10 : Memref sig .tc .vmem S128x5120 .f32) (h10 : a10.IsWhole)
  (x0 : Vec F S256x5120 .fp8e4m3) (x1 : Vec F S1x256 .f32) (x2 : Vec F S5120x128 .bf16)
  (x3 : Vec F S2x256 .i32) (x4 : Vec F S2x256 .bf16) (s0 : Vec F S128x5120 .bf16) (s1 : Vec F S128x5120 .f32)

theorem out0_A_5_eq (hc0 : cond0_0 i) (hc1 : ¬cond0_1 i) :
    out0_A_5 c i a1 h1 a2 h2 a3 h3 a4 h4 a5 h5 a6 h6 a7 h7 a8 h8 a9 h9 a10 h10
      hc0 hc1 x0 x1 x2 x3 x4 = blkDx x0 x1 (k0_pay3 x2) x3 x4 := by
  unfold out0_A_5
  rw [View.read_writes_eq_canon _ _ _ (cover0_A_5 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz]
  simp only [View.readCov_unit_zero (S := S128x5120) _ hz]
  simp only [View.readAt_eq_ld, h1.read_unread, h2.read_unread, h3.read_unread, h4.read_unread, h5.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_A_7_eq (hc0 : cond0_0 i) (hc1 : ¬cond0_1 i) :
    out0_A_7 c i a1 h1 a2 h2 a3 h3 a4 h4 a5 h5 a6 h6 a7 h7 a8 h8 a9 h9 a10 h10
      hc0 hc1 x0 x1 x2 x3 x4 = blkDlT x0 x1 (k0_pay3 x2) x3 x4 := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz]
  simp only [View.readCov_unit_zero (S := S128x5120) _ hz]
  simp only [View.readAt_eq_ld, h1.read_unread, h2.read_unread, h3.read_unread, h4.read_unread, h5.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem sout0_A_0_eq (hc0 : cond0_0 i) (hc1 : ¬cond0_1 i) :
    sout0_A_0 c i a1 h1 a2 h2 a3 h3 a4 h4 a5 h5 a6 h6 a7 h7 a8 h8 a9 h9 a10 h10
      hc0 hc1 x0 x1 x2 x3 x4 = k0_pay3 x2 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_unit_zero hz]
  simp only [View.readCov_unit_zero (S := S128x5120) _ hz]
  simp only [View.readAt_eq_ld, h1.read_unread, h2.read_unread, h3.read_unread, h4.read_unread, h5.read_unread,
    View.ld_unit_zero (S := S256x5120) hz, View.ld_unit_zero (S := S1x256) hz, View.ld_unit_zero (S := S5120x128) hz,
    View.ld_unit_zero (S := S2x256) hz, View.ld_unit_zero (S := S128x5120) hz]

theorem sout0_A_1_eq (hc0 : cond0_0 i) (hc1 : ¬cond0_1 i) :
    sout0_A_1 c i a1 h1 a2 h2 a3 h3 a4 h4 a5 h5 a6 h6 a7 h7 a8 h8 a9 h9 a10 h10
      hc0 hc1 x0 x1 x2 x3 x4 = blkAcc x0 x1 (k0_pay3 x2) x3 x4 k0_pay4 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S128x5120) hz]
  simp only [View.readCov_unit_zero (S := S128x5120) _ hz]
  simp only [View.readAt_eq_ld, h1.read_unread, h2.read_unread, h3.read_unread, h4.read_unread, h5.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_B_5_eq (hc0 : ¬cond0_0 i) (hc1 : ¬cond0_1 i) :
    out0_B_5 c i a1 h1 a2 h2 a3 h3 a4 h4 a5 h5 a6 h6 a7 h7 a8 h8 a9 h9 a10 h10
      hc0 hc1 x0 x1 x2 x3 x4 s0 s1 = blkDx x0 x1 s0 x3 x4 := by
  unfold out0_B_5
  rw [View.read_writes_eq_canon _ _ _ (cover0_B_5 c i a1 h1 a2 h2 a3 h3 a4 h4 a5 h5 a6 h6 a7 h7 a8 h8 a9 h9 a10 h10 hc0 hc1 x0 x1 x2 x3 x4 s0 s1)]
  unfold kernelRun0_B
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_B_7_eq (hc0 : ¬cond0_0 i) (hc1 : ¬cond0_1 i) :
    out0_B_7 c i a1 h1 a2 h2 a3 h3 a4 h4 a5 h5 a6 h6 a7 h7 a8 h8 a9 h9 a10 h10
      hc0 hc1 x0 x1 x2 x3 x4 s0 s1 = blkDlT x0 x1 s0 x3 x4 := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 s0 s1)]
  unfold kernelRun0_B
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem sout0_B_0_eq (hc0 : ¬cond0_0 i) (hc1 : ¬cond0_1 i) :
    sout0_B_0 c i a1 h1 a2 h2 a3 h3 a4 h4 a5 h5 a6 h6 a7 h7 a8 h8 a9 h9 a10 h10
      hc0 hc1 x0 x1 x2 x3 x4 s0 s1 = s0 := by
  unfold sout0_B_0
  rfl

theorem sout0_B_1_eq (hc0 : ¬cond0_0 i) (hc1 : ¬cond0_1 i) :
    sout0_B_1 c i a1 h1 a2 h2 a3 h3 a4 h4 a5 h5 a6 h6 a7 h7 a8 h8 a9 h9 a10 h10
      hc0 hc1 x0 x1 x2 x3 x4 s0 s1 = blkAcc x0 x1 s0 x3 x4 s1 := by
  unfold sout0_B_1
  rw [View.read_writes_eq_canon _ _ _ (scover0_B_1 c i a1 h1 a2 h2 a3 h3 a4 h4 a5 h5 a6 h6 a7 h7 a8 h8 a9 h9 a10 h10 hc0 hc1 x0 x1 x2 x3 x4 s0 s1)]
  unfold kernelRun0_B
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_C_5_eq (hc0 : ¬cond0_0 i) (hc1 : cond0_1 i) :
    out0_C_5 c i a1 h1 a2 h2 a3 h3 a4 h4 a5 h5 a6 h6 a7 h7 a8 h8 a9 h9 a10 h10
      hc0 hc1 x0 x1 x2 x3 x4 s0 s1 = blkDx x0 x1 s0 x3 x4 := by
  unfold out0_C_5
  rw [View.read_writes_eq_canon _ _ _ (cover0_C_5 c i a1 h1 a2 h2 a3 h3 a4 h4 a5 h5 a6 h6 a7 h7 a8 h8 a9 h9 a10 h10 hc0 hc1 x0 x1 x2 x3 x4 s0 s1)]
  unfold kernelRun0_C
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_C_7_eq (hc0 : ¬cond0_0 i) (hc1 : cond0_1 i) :
    out0_C_7 c i a1 h1 a2 h2 a3 h3 a4 h4 a5 h5 a6 h6 a7 h7 a8 h8 a9 h9 a10 h10
      hc0 hc1 x0 x1 x2 x3 x4 s0 s1 = blkDlT x0 x1 s0 x3 x4 := by
  unfold out0_C_7
  rw [View.read_writes_eq_canon _ _ _ (cover0_C_7 c i a1 h1 a2 h2 a3 h3 a4 h4 a5 h5 a6 h6 a7 h7 a8 h8 a9 h9 a10 h10 hc0 hc1 x0 x1 x2 x3 x4 s0 s1)]
  unfold kernelRun0_C
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem sout0_C_0_eq (hc0 : ¬cond0_0 i) (hc1 : cond0_1 i) :
    sout0_C_0 c i a1 h1 a2 h2 a3 h3 a4 h4 a5 h5 a6 h6 a7 h7 a8 h8 a9 h9 a10 h10
      hc0 hc1 x0 x1 x2 x3 x4 s0 s1 = s0 := by
  unfold sout0_C_0
  rfl

theorem sout0_C_1_eq (hc0 : ¬cond0_0 i) (hc1 : cond0_1 i) :
    sout0_C_1 c i a1 h1 a2 h2 a3 h3 a4 h4 a5 h5 a6 h6 a7 h7 a8 h8 a9 h9 a10 h10
      hc0 hc1 x0 x1 x2 x3 x4 s0 s1 = blkAcc x0 x1 s0 x3 x4 s1 := by
  unfold sout0_C_1
  rw [View.read_writes_eq_canon _ _ _ (scover0_C_1 c i a1 h1 a2 h2 a3 h3 a4 h4 a5 h5 a6 h6 a7 h7 a8 h8 a9 h9 a10 h10 hc0 hc1 x0 x1 x2 x3 x4 s0 s1)]
  unfold kernelRun0_C
  dsimp only
  sl_unfold_words
  rw [View.canon_unit_zero hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

theorem out0_C_6_eq (hc0 : ¬cond0_0 i) (hc1 : cond0_1 i) :
    out0_C_6 c i a1 h1 a2 h2 a3 h3 a4 h4 a5 h5 a6 h6 a7 h7 a8 h8 a9 h9 a10 h10
      hc0 hc1 x0 x1 x2 x3 x4 s0 s1 = k0_pay2 (blkAcc x0 x1 s0 x3 x4 s1) := by
  unfold out0_C_6
  rw [View.read_writes_eq_canon _ _ _ (cover0_C_6 c i a1 h1 a2 h2 a3 h3 a4 h4 a5 h5 a6 h6 a7 h7 a8 h8 a9 h9 a10 h10 hc0 hc1 x0 x1 x2 x3 x4 s0 s1)]
  unfold kernelRun0_C
  dsimp only
  sl_unfold_words
  rw [View.canon_unit_zero hz]
  simp only [View.readCov_unit_zero (S := S128x5120) _ hz]
  simp only [View.readAt_eq_ld, h1.read_unread, h2.read_unread, h3.read_unread, h4.read_unread, h5.read_unread, h9.read_unread, h10.read_unread,
    View.ld_unit_zero (S := S256x5120) hz, View.ld_unit_zero (S := S1x256) hz, View.ld_unit_zero (S := S5120x128) hz,
    View.ld_unit_zero (S := S2x256) hz, View.ld_unit_zero (S := S128x5120) hz]
  rfl

end

end Cert.KernelIdeal.Cases
-- ==== Proof.Fold.lean ====
module

public import proofs.«01_k».proof.Proof.Cases

@[expose] public section
set_option maxRecDepth 16384

noncomputable section

/-!
# What the kernel's grid leaves, point by point

The transposed weight is the same after every point, the transposed weight gradient grows by one
block's share per point, and each point writes its own block of the two row outputs.
-/

namespace Cert.KernelIdeal.Cases
open Cert.KernelIdeal Cert.KernelIdeal.Gen Cert.KernelIdeal.Value
open Idealize.ShloMosaic Idealize.ShloMosaic.TcCoe Idealize.SL.Sem

variable {F : FTy → Type} [FloatOps F]
variable (m : (ℓ : Loc nD τ sig) → Buf (Elt F) ℓ) (c : Dev nD)

/-- The first grid point. -/
def pt0 : Fin cfg0.N := ⟨0, lt_of_lt_of_eq (by decide) N_0.symm⟩

/-- The last grid point. -/
def pt7 : Fin cfg0.N := ⟨7, lt_of_lt_of_eq (by decide) N_0.symm⟩

/-- The transposed weight, as the first point leaves it. -/
def wtC : Vec F S128x5120 .bf16 := k0_pay3 (iblk m c 2 pt0)

/-- The transposed weight gradient after point `n`. -/
def dwtAt : (n : ℕ) → n < cfg0.N → Vec F S128x5120 .f32
  | 0, h => blkAcc (iblk m c 0 ⟨0, h⟩) (iblk m c 1 ⟨0, h⟩) (wtC m c) (iblk m c 3 ⟨0, h⟩) (iblk m c 4 ⟨0, h⟩) k0_pay4
  | n + 1, h => blkAcc (iblk m c 0 ⟨n + 1, h⟩) (iblk m c 1 ⟨n + 1, h⟩) (wtC m c) (iblk m c 3 ⟨n + 1, h⟩)
      (iblk m c 4 ⟨n + 1, h⟩) (dwtAt n (Nat.lt_of_succ_lt h))

theorem outs_wt (n : ℕ) (hn : n < cfg0.N) : (outsAt0 m c n hn).2.2.2.1 = wtC m c := by
  induction n with
  | zero =>
    refine (congrArg (fun p => p.2.2.2.1) (outsAt0_A m c ⟨0, hn⟩ (Nat.zero_mod 8) (by show ¬ 0 % 8 = 7; decide))).trans ?_
    dsimp only
    rw [sout0_A_0_eq]
    rfl
  | succ n ih =>
    have hN := lt_of_lt_of_eq hn (show cfg0.N = 8 from N_0)
    have h0 : ¬ (n + 1) % 8 = 0 := by omega
    by_cases h1 : (n + 1) % 8 = 7
    · refine (congrArg (fun p => p.2.2.2.1) (outsAt0_C m c ⟨n + 1, hn⟩ h0 h1)).trans ?_
      dsimp only
      rw [sout0_C_0_eq]
      exact ih _
    · refine (congrArg (fun p => p.2.2.2.1) (outsAt0_B m c ⟨n + 1, hn⟩ h0 h1)).trans ?_
      dsimp only
      rw [sout0_B_0_eq]
      exact ih _

theorem outs_dwt (n : ℕ) (hn : n < cfg0.N) : (outsAt0 m c n hn).2.2.2.2 = dwtAt m c n hn := by
  induction n with
  | zero =>
    refine (congrArg (fun p => p.2.2.2.2) (outsAt0_A m c ⟨0, hn⟩ (Nat.zero_mod 8) (by show ¬ 0 % 8 = 7; decide))).trans ?_
    dsimp only
    rw [sout0_A_1_eq]
    rfl
  | succ n ih =>
    have hN := lt_of_lt_of_eq hn (show cfg0.N = 8 from N_0)
    have h0 : ¬ (n + 1) % 8 = 0 := by omega
    by_cases h1 : (n + 1) % 8 = 7
    · refine (congrArg (fun p => p.2.2.2.2) (outsAt0_C m c ⟨n + 1, hn⟩ h0 h1)).trans ?_
      dsimp only
      rw [sout0_C_1_eq]
      exact congrArg₂ (fun a b => blkAcc _ _ a _ _ b) (outs_wt m c n _) (ih _)
    · refine (congrArg (fun p => p.2.2.2.2) (outsAt0_B m c ⟨n + 1, hn⟩ h0 h1)).trans ?_
      dsimp only
      rw [sout0_B_1_eq]
      exact congrArg₂ (fun a b => blkAcc _ _ a _ _ b) (outs_wt m c n _) (ih _)

theorem outs_dx (t : Fin cfg0.N) : (outsAt0 m c t.val t.isLt).1
    = blkDx (iblk m c 0 t) (iblk m c 1 t) (wtC m c) (iblk m c 3 t) (iblk m c 4 t) := by
  obtain ⟨n, hn⟩ := t
  cases n with
  | zero =>
    refine (congrArg (fun p => p.1) (outsAt0_A m c ⟨0, hn⟩ (Nat.zero_mod 8) (by show ¬ 0 % 8 = 7; decide))).trans ?_
    dsimp only
    rw [out0_A_5_eq]
    rfl
  | succ n =>
    have hN := lt_of_lt_of_eq hn (show cfg0.N = 8 from N_0)
    have h0 : ¬ (n + 1) % 8 = 0 := by omega
    by_cases h1 : (n + 1) % 8 = 7
    · refine (congrArg (fun p => p.1) (outsAt0_C m c ⟨n + 1, hn⟩ h0 h1)).trans ?_
      dsimp only
      rw [out0_C_5_eq]
      exact congrArg (fun a => blkDx _ _ a _ _) (outs_wt m c n _)
    · refine (congrArg (fun p => p.1) (outsAt0_B m c ⟨n + 1, hn⟩ h0 h1)).trans ?_
      dsimp only
      rw [out0_B_5_eq]
      exact congrArg (fun a => blkDx _ _ a _ _) (outs_wt m c n _)

theorem outs_dl (t : Fin cfg0.N) : (outsAt0 m c t.val t.isLt).2.2.1
    = blkDlT (iblk m c 0 t) (iblk m c 1 t) (wtC m c) (iblk m c 3 t) (iblk m c 4 t) := by
  obtain ⟨n, hn⟩ := t
  cases n with
  | zero =>
    refine (congrArg (fun p => p.2.2.1) (outsAt0_A m c ⟨0, hn⟩ (Nat.zero_mod 8) (by show ¬ 0 % 8 = 7; decide))).trans ?_
    dsimp only
    rw [out0_A_7_eq]
    rfl
  | succ n =>
    have hN := lt_of_lt_of_eq hn (show cfg0.N = 8 from N_0)
    have h0 : ¬ (n + 1) % 8 = 0 := by omega
    by_cases h1 : (n + 1) % 8 = 7
    · refine (congrArg (fun p => p.2.2.1) (outsAt0_C m c ⟨n + 1, hn⟩ h0 h1)).trans ?_
      dsimp only
      rw [out0_C_7_eq]
      exact congrArg (fun a => blkDlT _ _ a _ _) (outs_wt m c n _)
    · refine (congrArg (fun p => p.2.2.1) (outsAt0_B m c ⟨n + 1, hn⟩ h0 h1)).trans ?_
      dsimp only
      rw [out0_B_7_eq]
      exact congrArg (fun a => blkDlT _ _ a _ _) (outs_wt m c n _)

theorem outs_dw : (outsAt0 m c pt7.val pt7.isLt).2.1 = k0_pay2 (dwtAt m c pt7.val pt7.isLt) := by
  refine (congrArg (fun p => p.2.1) (outsAt0_C m c pt7 (by show ¬ 7 % 8 = 0; decide) (by show 7 % 8 = 7; decide))).trans ?_
  dsimp only
  rw [out0_C_6_eq]
  exact congrArg₂ (fun a b => k0_pay2 (blkAcc _ _ a _ _ b)) (outs_wt m c _ _) (outs_dwt m c _ _)

/-- The tokens' gradient, read at an index: its block's row. -/
theorem G5_apply (i : S2048x5120.Idx) (t : Fin cfg0.N) (ht : pt5Of i = t.val) :
    G5 m c i = blkDx (iblk m c 0 t) (iblk m c 1 t) (wtC m c) (iblk m c 3 t) (iblk m c 4 t) (loc5Of i) := by
  obtain ⟨n, hn⟩ := t
  have ht' : pt5Of i = n := ht
  subst ht'
  unfold G5
  rw [dif_pos hn, ← outsAt0_sweep m c _ hn]
  exact congrFun (outs_dx m c ⟨_, hn⟩) _

/-- The logits' gradient, read at an index: its block's row. -/
theorem G7_apply (i : S2048x128.Idx) (t : Fin cfg0.N) (ht : pt7Of i = t.val) :
    G7 m c i = blkDlT (iblk m c 0 t) (iblk m c 1 t) (wtC m c) (iblk m c 3 t) (iblk m c 4 t) (loc7Of i) := by
  obtain ⟨n, hn⟩ := t
  have ht' : pt7Of i = n := ht
  subst ht'
  unfold G7
  rw [dif_pos hn, ← outsAt0_sweep m c _ hn]
  exact congrFun (outs_dl m c ⟨_, hn⟩) _

/-- The weight's gradient: the transpose of what the last point has accumulated. -/
theorem G6_eq : G6 m c = k0_pay2 (dwtAt m c pt7.val pt7.isLt) := by
  rw [G6_last, ← outs_dw]
  exact congrArg (fun p => p.2.1) (outsAt0_sweep m c 7 pt7.isLt).symm

end Cert.KernelIdeal.Cases
-- ==== Proof.Row.lean ====
module

public import Idealize.ShloMosaic.Lib.Pointwise
public import Idealize.ShloMosaic.Lib.Pipeline.Value
public import Idealize.ShloMosaic.Lib.Tactic

@[expose] public section

noncomputable section

/-!
# The backward pass of the router, over the extended reals

Each of the 2048 tokens has a row of 128 logits, two chosen experts and two incoming gate gradients.
The two programs are each shown to compute the three arrays defined here.
-/

namespace Cert.Router
open Idealize.ShloMosaic

/-- Whether the chosen expert `i` is expert `e`. -/
def hit (i : BitVec 32) (e : Fin 128) : BitVec 1 := IntOp.cmpi .eq (BitVec.ofNat 32 e.val) i

theorem hit_comm (i : BitVec 32) (e : Fin 128) : IntOp.cmpi .eq i (BitVec.ofNat 32 e.val) = hit i e := by
  unfold hit IntOp.cmpi
  simp only [Bool.beq_comm, eq_comm]

/-- The gate of a chosen expert: the logistic of its logit (of zero if no expert is chosen). -/
def gate (L : Fin 128 → EReal) (i : BitVec 32) : EReal :=
  Ideal.logistic (∑ e, Scalar.select (hit i e) (L e) (0 : EReal))

/-- The sum the two gates are normalized by. -/
def den (g0 g1 : EReal) : EReal := if 0 < g0 + g1 then g0 + g1 else 1

/-- The gradient of a chosen expert's logit, `d` its own gate gradient and `g` its own gate. -/
def dsel (d g d0 d1 g0 g1 : EReal) : EReal :=
  Ideal.div (Ideal.ofBits .f32 0x40200000#32 * (d - Ideal.div (d0 * g0 + d1 * g1) (den g0 g1))) (den g0 g1) * g * (1 - g)

/-- A token's gradient of its logits: the second choice's where it hits, else the first's, else zero. -/
def dlRow (L : Fin 128 → EReal) (i0 i1 : BitVec 32) (d0 d1 : EReal) (e : Fin 128) : EReal :=
  Scalar.select (hit i1 e) (dsel d1 (gate L i1) d0 d1 (gate L i0) (gate L i1))
    (Scalar.select (hit i0 e) (dsel d0 (gate L i0) d0 d1 (gate L i0) (gate L i1)) (0 : EReal))

section
variable (A0 : (⟨3, ![4, 512, 5120]⟩ : Shape).Idx → EReal) (A1 : (⟨2, ![4, 512]⟩ : Shape).Idx → EReal)
  (A2 : (⟨2, ![5120, 128]⟩ : Shape).Idx → EReal) (A3 : (⟨3, ![4, 512, 2]⟩ : Shape).Idx → BitVec 32)
  (A4 : (⟨3, ![4, 512, 2]⟩ : Shape).Idx → EReal)

/-- A token's batch. -/
def bat (t : Fin 2048) : Fin 4 := ⟨t.val / 512, by omega⟩

/-- A token's place in its batch. -/
def pos (t : Fin 2048) : Fin 512 := ⟨t.val % 512, by omega⟩

theorem bat_pos (t : Fin 2048) : (bat t).val * 512 + (pos t).val = t.val := by
  show t.val / 512 * 512 + t.val % 512 = t.val
  omega

/-- The tokens flattened, read at an index. -/
theorem flat_apply {α : Type} {n : ℕ} (A : (⟨3, ![4, 512, n]⟩ : Shape).Idx → α)
    (h : (⟨3, ![4, 512, n]⟩ : Shape).ShapeCasts ⟨2, ![2048, n]⟩) (t : Fin 2048) (d : Fin n) :
    shapeCast ⟨2, ![2048, n]⟩ A h (ix2 t d) = A (ix3 (bat t) (pos t) d) := by
  refine shapeCast_apply A h _ _ ?_
  rw [Shape.rowMajor_val_two, Shape.rowMajor_val_three]
  show ((bat t).val * 512 + (pos t).val) * n + d.val = t.val * n + d.val
  rw [bat_pos]

/-- A number per token, as one row. -/
theorem flatRow_apply {α : Type} (A : (⟨2, ![4, 512]⟩ : Shape).Idx → α)
    (h : (⟨2, ![4, 512]⟩ : Shape).ShapeCasts ⟨2, ![1, 2048]⟩) (t : Fin 2048) :
    shapeCast ⟨2, ![1, 2048]⟩ A h (ix2 0 t) = A (ix2 (bat t) (pos t)) := by
  refine shapeCast_apply A h _ _ ?_
  rw [Shape.rowMajor_val_two, Shape.rowMajor_val_two]
  show (bat t).val * 512 + (pos t).val = 0 * 2048 + t.val
  rw [bat_pos]
  omega

/-- A number per token, as one column. -/
theorem flatCol_apply {α : Type} (A : (⟨2, ![4, 512]⟩ : Shape).Idx → α)
    (h : (⟨2, ![4, 512]⟩ : Shape).ShapeCasts ⟨2, ![2048, 1]⟩) (t : Fin 2048) :
    shapeCast ⟨2, ![2048, 1]⟩ A h (ix2 t 0) = A (ix2 (bat t) (pos t)) := by
  refine shapeCast_apply A h _ _ ?_
  rw [Shape.rowMajor_val_two, Shape.rowMajor_val_two]
  show (bat t).val * 512 + (pos t).val = t.val * 1 + 0
  rw [bat_pos]
  omega

/-- A token's logits. -/
def logit (t : Fin 2048) (e : Fin 128) : EReal :=
  (∑ d : Fin 5120, A0 (ix3 (bat t) (pos t) d) * A2 (ix2 d e)) * A1 (ix2 (bat t) (pos t))

/-- The gradient of the logits. -/
def dl (t : Fin 2048) (e : Fin 128) : EReal :=
  dlRow (logit A0 A1 A2 t) (A3 (ix3 (bat t) (pos t) 0)) (A3 (ix3 (bat t) (pos t) 1))
    (A4 (ix3 (bat t) (pos t) 0)) (A4 (ix3 (bat t) (pos t) 1)) e

/-- The gradient of the tokens. -/
def dx (t : Fin 2048) (d : Fin 5120) : EReal := ∑ e : Fin 128, dl A0 A1 A2 A3 A4 t e * A2 (ix2 d e)

/-- One token's share of the gradient of the weight. -/
def dwTerm (d : Fin 5120) (e : Fin 128) (t : Fin 2048) : EReal :=
  A0 (ix3 (bat t) (pos t) d) * (dl A0 A1 A2 A3 A4 t e * A1 (ix2 (bat t) (pos t)))

/-- The gradient of the weight. -/
def dw (d : Fin 5120) (e : Fin 128) : EReal := ∑ t : Fin 2048, dwTerm A0 A1 A2 A3 A4 d e t

end

end Cert.Router
-- ==== Proof.Block.lean ====
module

public import proofs.«01_k».proof.Proof.Fold
public import proofs.«01_k».proof.Proof.Row
public import Idealize.ShloMosaic.Lib.Pipeline.ValueKit.Tiles

@[expose] public section
set_option maxRecDepth 16384

noncomputable section

/-!
# A block of the kernel, element by element

Over the extended reals, what a grid point computes from its five blocks and the transposed weight,
read at one index.
-/

namespace Cert.KernelIdeal.Cases
open Cert.KernelIdeal Cert.KernelIdeal.Gen Cert.KernelIdeal.Value Cert.Router
open Idealize.ShloMosaic Idealize.ShloMosaic.TcCoe Idealize.SL.Sem

section
variable (x : Vec Ideal S256x5120 .fp8e4m3) (s : Vec Ideal S1x256 .f32) (wt : Vec Ideal S128x5120 .bf16)
  (ids : Vec Ideal S2x256 .i32) (dg : Vec Ideal S2x256 .bf16)

theorem row0_apply (q : Fin 256) : row0 dg (ix2 0 q) = dg (ix2 0 q) := by
  unfold row0
  exact View.ld_unit_apply_of dg _ _ _ _ _ (fun a => by fin_cases a <;> simp)

theorem row1_apply (q : Fin 256) : row1 dg (ix2 0 q) = dg (ix2 1 q) := by
  unfold row1
  exact View.ld_unit_apply_of dg _ _ _ _ _ (fun a => by fin_cases a <;> simp)

/-- A block's row of logits. -/
def blkLogit (q : Fin 256) (e : Fin 128) : EReal := (∑ d : Fin 5120, x (ix2 q d) * wt (ix2 e d)) * s (ix2 0 q)

theorem hit9 (e : Fin 128) (q : Fin 256) : k0_pay9 (F := Ideal) ids (ix2 e q) = hit (ids (ix2 0 q)) e := by
  unfold_payloads
  pointwise
  rfl

theorem hit10 (e : Fin 128) (q : Fin 256) : k0_pay10 (F := Ideal) ids (ix2 e q) = hit (ids (ix2 1 q)) e := by
  unfold_payloads
  pointwise
  rfl

theorem gate11 (q : Fin 256) : k0_pay11 (F := Ideal) x s wt ids (ix2 0 q) = gate (blkLogit x s wt q) (ids (ix2 0 q)) := by
  unfold_payloads
  pointwise
  simp only [mul_comm (wt _)]
  rfl

theorem gate12 (q : Fin 256) : k0_pay12 (F := Ideal) x s wt ids (ix2 0 q) = gate (blkLogit x s wt q) (ids (ix2 1 q)) := by
  unfold_payloads
  pointwise
  simp only [mul_comm (wt _)]
  rfl

theorem gate15 (q : Fin 256) : k0_pay15 (F := Ideal) x s wt ids (ix2 0 q) = gate (blkLogit x s wt q) (ids (ix2 0 q)) := by
  unfold_payloads
  pointwise
  simp only [mul_comm (wt _)]
  rfl

theorem blkDl_apply (e : Fin 128) (q : Fin 256) : blkDl x s wt ids dg (ix2 e q)
    = dlRow (blkLogit x s wt q) (ids (ix2 0 q)) (ids (ix2 1 q)) (dg (ix2 0 q)) (dg (ix2 1 q)) e := by
  unfold blkDl k0_pay16 k0_pay13 k0_pay14
  pointwise [hit9, hit10, gate11, gate12, gate15, row0_apply, row1_apply]
  rfl

theorem blkDlT_apply (q : Fin 256) (e : Fin 128) : blkDlT x s wt ids dg (ix2 q e) = blkDl x s wt ids dg (ix2 e q) := by
  unfold blkDlT k0_pay18
  pointwise
  rfl

theorem blkDx_apply (q : Fin 256) (d : Fin 5120) : blkDx x s wt ids dg (ix2 q d) = ∑ e : Fin 128, blkDl x s wt ids dg (ix2 e q) * wt (ix2 e d) := by
  unfold blkDx k0_pay19 k0_pay18
  pointwise
  rfl

theorem blkAcc_apply (acc : Vec Ideal S128x5120 .f32) (e : Fin 128) (d : Fin 5120) : blkAcc x s wt ids dg acc (ix2 e d)
    = acc (ix2 e d) + ∑ q : Fin 256, (blkDl x s wt ids dg (ix2 e q) * s (ix2 0 q)) * x (ix2 q d) := by
  unfold blkAcc k0_pay1 k0_pay17 k0_pay5 k0_pay6
  pointwise
  rfl
end

theorem wt_apply (w : Vec Ideal S5120x128 .bf16) (e : Fin 128) (d : Fin 5120) :
    k0_pay3 (F := Ideal) w (ix2 e d) = w (ix2 d e) := by
  unfold_payloads
  pointwise

theorem zero_apply (e : Fin 128) (d : Fin 5120) : k0_pay4 (F := Ideal) (ix2 e d) = (0 : EReal) := by
  unfold_payloads
  pointwise

theorem dwOut_apply (a : Vec Ideal S128x5120 .f32) (d : Fin 5120) (e : Fin 128) :
    k0_pay2 (F := Ideal) a (ix2 d e) = a (ix2 e d) := by
  unfold_payloads
  pointwise

end Cert.KernelIdeal.Cases
-- ==== Proof.Args.lean ====
module

public import proofs.«01_k».proof.Proof.Block

@[expose] public section
set_option maxRecDepth 16384

noncomputable section

/-!
# The blocks of the kernel's windows, in terms of the arguments

The host flattens the tokens, and transposes the chosen experts and the gate gradients; the grid then cuts the 2048
tokens into eight blocks of 256. Each lemma reads one entry of one block as an entry of an argument.
-/

namespace Cert.KernelIdeal.Cases
open Cert.KernelIdeal Cert.KernelIdeal.Gen Cert.KernelIdeal.Value Cert.Router
open Idealize.ShloMosaic Idealize.ShloMosaic.TcCoe Idealize.SL.Sem

variable (m : (ℓ : Loc nD τ sig) → Buf (Elt Ideal) ℓ) (c : Dev nD)

/-- The flattened codes: token `t` is position `pos t` of batch `bat t`. -/
theorem V_x (t : Fin 2048) (d : Fin 5120) :
    V m c main_v0 (ix2 t d) = m ((c : Thread nD τ).loc main_arg0) (ix3 (bat t) (pos t) d) := by
  have e : V m c main_v0 = shapeCast S2048x5120 (m ((c : Thread nD τ).loc main_arg0)) shapeCasts_S4x512x5120_S2048x5120 := by
    unfold V hostOps0
    after_results
    rfl
  exact (congrFun e _).trans (flat_apply _ _ t d)

/-- The flattened scales, as one row. -/
theorem V_s (t : Fin 2048) :
    V m c main_v1 (ix2 0 t) = m ((c : Thread nD τ).loc main_arg1) (ix2 (bat t) (pos t)) := by
  have e : V m c main_v1 = shapeCast S1x2048 (m ((c : Thread nD τ).loc main_arg1)) shapeCasts_S4x512_S1x2048 := by
    unfold V hostOps0
    after_results
    rfl
  exact (congrFun e _).trans (flatRow_apply _ _ t)

/-- The transpose of a two-column matrix exchanges the coordinates. -/
theorem transpose_apply {α : Type} (x : S2048x2.Idx → α) (h : S2048x2.Transposes [1, 0] S2x2048) (k : Fin 2) (t : Fin 2048) :
    transpose S2x2048 [1, 0] x h (ix2 k t) = x (ix2 t k) := by
  pointwise

/-- The chosen experts, one row per choice. -/
theorem V_ids (k : Fin 2) (t : Fin 2048) :
    V m c main_v3 (ix2 k t) = m ((c : Thread nD τ).loc main_arg3) (ix3 (bat t) (pos t) k) := by
  have e : V m c main_v3 = transpose S2x2048 [1, 0] (shapeCast S2048x2 (m ((c : Thread nD τ).loc main_arg3))
      shapeCasts_S4x512x2_S2048x2) transposes_S2048x2_S2x2048_1_0 := by
    unfold V hostOps0
    after_results
    rfl
  exact ((congrFun e _).trans (transpose_apply _ _ k t)).trans (flat_apply _ _ t k)

/-- The gate gradients, one row per choice. -/
theorem V_dg (k : Fin 2) (t : Fin 2048) :
    V m c main_v5 (ix2 k t) = m ((c : Thread nD τ).loc main_arg4) (ix3 (bat t) (pos t) k) := by
  have e : V m c main_v5 = transpose S2x2048 [1, 0] (shapeCast S2048x2 (m ((c : Thread nD τ).loc main_arg4))
      shapeCasts_S4x512x2_S2048x2) transposes_S2048x2_S2x2048_1_0 := by
    unfold V hostOps0
    after_results
    rfl
  exact ((congrFun e _).trans (transpose_apply _ _ k t)).trans (flat_apply _ _ t k)

/-- Token `q` of block `t`. -/
def tok (t : Fin cfg0.N) (q : Fin 256) : Fin 2048 :=
  ⟨t.val * 256 + q.val, by have := lt_of_lt_of_eq t.isLt (show cfg0.N = 8 from N_0); omega⟩

/-- The block of each window at each grid point: the token windows follow the point, the weight stays. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, _)

/-- The block of codes at point `t`. -/
theorem iblk0_apply (t : Fin cfg0.N) (q : Fin 256) (d : Fin 5120) :
    iblk m c 0 t (ix2 q d) = V m c main_v0 (ix2 (tok t q) d) := by
  obtain ⟨⟨e0, e1⟩, -⟩ := idx_facts t
  unfold iblk
  rw [View.read_apply]
  show V m c main_v0 _ = _
  congr 1; funext a; apply Fin.ext
  match a with
  | ⟨0, _⟩ => show win0_0.index t (0 : Fin 2) * 256 + 1 * q.val = t.val * 256 + q.val; rw [e0]; omega
  | ⟨1, _⟩ => show win0_0.index t (1 : Fin 2) * 5120 + 1 * d.val = d.val; rw [e1]; omega

/-- The block of scales at point `t`. -/
theorem iblk1_apply (t : Fin cfg0.N) (q : Fin 256) : iblk m c 1 t (ix2 0 q) = V m c main_v1 (ix2 0 (tok t q)) := by
  obtain ⟨-, ⟨e0, e1⟩, -⟩ := idx_facts t
  unfold iblk
  rw [View.read_apply]
  show V m c main_v1 _ = _
  congr 1; funext a; apply Fin.ext
  match a with
  | ⟨0, _⟩ => show win0_1.index t (0 : Fin 2) * 1 + 1 * 0 = 0; rw [e0]
  | ⟨1, _⟩ => show win0_1.index t (1 : Fin 2) * 256 + 1 * q.val = t.val * 256 + q.val; rw [e1]; omega

/-- The weight, whole at every point. -/
theorem iblk2_apply (t : Fin cfg0.N) (d : Fin 5120) (e : Fin 128) : iblk m c 2 t (ix2 d e) = V m c main_arg2 (ix2 d e) := by
  obtain ⟨-, -, ⟨e0, e1⟩, -⟩ := idx_facts t
  unfold iblk
  rw [View.read_apply]
  show V m c main_arg2 _ = _
  congr 1; funext a; apply Fin.ext
  match a with
  | ⟨0, _⟩ => show win0_2.index t (0 : Fin 2) * 5120 + 1 * d.val = d.val; rw [e0]; omega
  | ⟨1, _⟩ => show win0_2.index t (1 : Fin 2) * 128 + 1 * e.val = e.val; rw [e1]; omega

/-- The block of chosen experts at point `t`. -/
theorem iblk3_apply (t : Fin cfg0.N) (k : Fin 2) (q : Fin 256) : iblk m c 3 t (ix2 k q) = V m c main_v3 (ix2 k (tok t q)) := by
  obtain ⟨-, -, -, ⟨e0, e1⟩, -⟩ := idx_facts t
  unfold iblk
  rw [View.read_apply]
  show V m c main_v3 _ = _
  congr 1; funext a; apply Fin.ext
  match a with
  | ⟨0, _⟩ => show win0_3.index t (0 : Fin 2) * 2 + 1 * k.val = k.val; rw [e0]; omega
  | ⟨1, _⟩ => show win0_3.index t (1 : Fin 2) * 256 + 1 * q.val = t.val * 256 + q.val; rw [e1]; omega

/-- The block of gate gradients at point `t`. -/
theorem iblk4_apply (t : Fin cfg0.N) (k : Fin 2) (q : Fin 256) : iblk m c 4 t (ix2 k q) = V m c main_v5 (ix2 k (tok t q)) := by
  obtain ⟨-, -, -, -, ⟨e0, e1⟩⟩ := idx_facts t
  unfold iblk
  rw [View.read_apply]
  show V m c main_v5 _ = _
  congr 1; funext a; apply Fin.ext
  match a with
  | ⟨0, _⟩ => show win0_4.index t (0 : Fin 2) * 2 + 1 * k.val = k.val; rw [e0]; omega
  | ⟨1, _⟩ => show win0_4.index t (1 : Fin 2) * 256 + 1 * q.val = t.val * 256 + q.val; rw [e1]; omega

end Cert.KernelIdeal.Cases
-- ==== Proof.KernelValue.lean ====
module

public import proofs.«01_k».proof.Proof.Args

@[expose] public section
set_option maxRecDepth 16384

noncomputable section

/-!
# What the kernel computes

Over the extended reals its three results are the router's three gradients. The weight's gradient is
accumulated over eight blocks of 256 tokens; addition over the extended reals is associative, so that
is the sum over the 2048 tokens.
-/

namespace Cert.KernelIdeal.Cases
open Cert.KernelIdeal Cert.KernelIdeal.Gen Cert.KernelIdeal.Value Cert.Router
open Idealize.ShloMosaic Idealize.ShloMosaic.TcCoe Idealize.SL.Sem

variable (m : (ℓ : Loc nD τ sig) → Buf (Elt Ideal) ℓ) (c : Dev nD)

/-! The five arguments, as the launch finds them. -/

abbrev in0 : Vec Ideal S4x512x5120 .fp8e4m3 := m ((c : Thread nD τ).loc main_arg0)
abbrev in1 : Vec Ideal S4x512 .f32 := m ((c : Thread nD τ).loc main_arg1)
abbrev in2 : Vec Ideal S5120x128 .bf16 := m ((c : Thread nD τ).loc main_arg2)
abbrev in3 : Vec Ideal S4x512x2 .i32 := m ((c : Thread nD τ).loc main_arg3)
abbrev in4 : Vec Ideal S4x512x2 .bf16 := m ((c : Thread nD τ).loc main_arg4)

theorem wtC_apply (e : Fin 128) (d : Fin 5120) : wtC m c (ix2 e d) = in2 m c (ix2 d e) := by
  unfold wtC
  rw [wt_apply, iblk2_apply, V_main_arg2]

theorem x_apply (t : Fin cfg0.N) (q : Fin 256) (d : Fin 5120) :
    iblk m c 0 t (ix2 q d) = in0 m c (ix3 (bat (tok t q)) (pos (tok t q)) d) :=
  (iblk0_apply m c t q d).trans (V_x m c _ d)

theorem s_apply (t : Fin cfg0.N) (q : Fin 256) :
    iblk m c 1 t (ix2 0 q) = in1 m c (ix2 (bat (tok t q)) (pos (tok t q))) :=
  (iblk1_apply m c t q).trans (V_s m c _)

theorem ids_apply (t : Fin cfg0.N) (k : Fin 2) (q : Fin 256) :
    iblk m c 3 t (ix2 k q) = in3 m c (ix3 (bat (tok t q)) (pos (tok t q)) k) :=
  (iblk3_apply m c t k q).trans (V_ids m c k _)

theorem dg_apply (t : Fin cfg0.N) (k : Fin 2) (q : Fin 256) :
    iblk m c 4 t (ix2 k q) = in4 m c (ix3 (bat (tok t q)) (pos (tok t q)) k) :=
  (iblk4_apply m c t k q).trans (V_dg m c k _)

theorem blkLogit_eq (t : Fin cfg0.N) (q : Fin 256) :
    blkLogit (iblk m c 0 t) (iblk m c 1 t) (wtC m c) q = logit (in0 m c) (in1 m c) (in2 m c) (tok t q) := by
  funext e
  unfold blkLogit logit
  rw [s_apply]
  congr 1
  exact Finset.sum_congr rfl fun d _ => by rw [x_apply, wtC_apply]

theorem blkDl_eq (t : Fin cfg0.N) (q : Fin 256) (e : Fin 128) :
    blkDl (iblk m c 0 t) (iblk m c 1 t) (wtC m c) (iblk m c 3 t) (iblk m c 4 t) (ix2 e q)
      = dl (in0 m c) (in1 m c) (in2 m c) (in3 m c) (in4 m c) (tok t q) e := by
  rw [blkDl_apply, blkLogit_eq, ids_apply, ids_apply, dg_apply, dg_apply]
  rfl

/-- The block a token is in. -/
def blk (t : Fin 2048) : Fin cfg0.N := ⟨t.val / 256, lt_of_lt_of_eq (by omega) N_0.symm⟩

/-- A token's place in its block. -/
def lane (t : Fin 2048) : Fin 256 := ⟨t.val % 256, by omega⟩

theorem tok_blk (t : Fin 2048) : tok (blk t) (lane t) = t := by
  apply Fin.ext
  show t.val / 256 * 256 + t.val % 256 = t.val
  omega

/-- The kernel's gradient of the logits. -/
theorem G7_eq (t : Fin 2048) (e : Fin 128) : G7 m c (ix2 t e) = dl (in0 m c) (in1 m c) (in2 m c) (in3 m c) (in4 m c) t e := by
  have hl : loc7Of (ix2 t e) = ix2 (lane t) e := by
    funext a; apply Fin.ext
    match a with
    | ⟨0, _⟩ => rfl
    | ⟨1, _⟩ => show e.val % 128 = e.val; omega
  have hp : pt7Of (ix2 t e) = (blk t).val := by
    show 1 * (t.val / 256 - 0) + 1 * (e.val / 128 - 0) = t.val / 256
    omega
  rw [G7_apply m c _ _ hp, hl, blkDlT_apply, blkDl_eq, tok_blk]

/-- The kernel's gradient of the tokens. -/
theorem G5_eq (t : Fin 2048) (d : Fin 5120) : G5 m c (ix2 t d) = dx (in0 m c) (in1 m c) (in2 m c) (in3 m c) (in4 m c) t d := by
  have hl : loc5Of (ix2 t d) = ix2 (lane t) d := by
    funext a; apply Fin.ext
    match a with
    | ⟨0, _⟩ => rfl
    | ⟨1, _⟩ => show d.val % 5120 = d.val; omega
  have hp : pt5Of (ix2 t d) = (blk t).val := by
    show 1 * (t.val / 256 - 0) + 1 * (d.val / 5120 - 0) = t.val / 256
    omega
  rw [G5_apply m c _ _ hp, hl, blkDx_apply]
  show (∑ e : Fin 128, _ : EReal) = ∑ e : Fin 128, _
  exact Finset.sum_congr rfl fun e _ => by rw [blkDl_eq, tok_blk, wtC_apply]

/-- A token's share of the weight's gradient, zero past the last token. -/
def share (d : Fin 5120) (e : Fin 128) (t : ℕ) : EReal :=
  if h : t < 2048 then dwTerm (in0 m c) (in1 m c) (in2 m c) (in3 m c) (in4 m c) d e ⟨t, h⟩ else 0

/-- What a point adds: its block's tokens' shares. -/
theorem blkAcc_eq (t : Fin cfg0.N) (acc : Vec Ideal S128x5120 .f32) (e : Fin 128) (d : Fin 5120) :
    blkAcc (iblk m c 0 t) (iblk m c 1 t) (wtC m c) (iblk m c 3 t) (iblk m c 4 t) acc (ix2 e d)
      = acc (ix2 e d) + ∑ q ∈ Finset.range 256, share m c d e (t.val * 256 + q) := by
  rw [blkAcc_apply, Finset.sum_range]
  congr 1
  refine Finset.sum_congr rfl fun q _ => ?_
  unfold share
  rw [dif_pos (show t.val * 256 + q.val < 2048 from (tok t q).isLt), blkDl_eq, s_apply, x_apply, mul_comm]
  rfl

theorem dwtAt_eq (e : Fin 128) (d : Fin 5120) (n : ℕ) (hn : n < cfg0.N) :
    dwtAt m c n hn (ix2 e d) = ∑ t ∈ Finset.range ((n + 1) * 256), share m c d e t := by
  induction n with
  | zero =>
    refine (blkAcc_eq m c ⟨0, hn⟩ _ e d).trans ?_
    rw [zero_apply, zero_add]
    simp only [Nat.zero_mul, Nat.zero_add, Nat.one_mul]
  | succ n ih =>
    refine (blkAcc_eq m c ⟨n + 1, hn⟩ _ e d).trans ?_
    rw [ih, Nat.succ_mul (n + 1) 256, Finset.sum_range_add]

/-- The kernel's gradient of the weight. -/
theorem G6_eq' (d : Fin 5120) (e : Fin 128) : G6 m c (ix2 d e) = dw (in0 m c) (in1 m c) (in2 m c) (in3 m c) (in4 m c) d e := by
  rw [G6_eq, dwOut_apply, dwtAt_eq]
  show ∑ t ∈ Finset.range 2048, share m c d e t = _
  rw [Finset.sum_range]
  unfold dw
  refine Finset.sum_congr rfl fun t _ => ?_
  unfold share
  rw [dif_pos t.isLt]

end Cert.KernelIdeal.Cases
-- ==== Proof.RefValue.lean ====
module

public import proofs.«01_k».proof.Proof.Gen.ReferenceIdeal.Value
public import proofs.«01_k».proof.Proof.Row

@[expose] public section
set_option maxRecDepth 16384

noncomputable section

/-!
# What the reference computes

The reference is one step over whole arrays. Over the extended reals its three results are the
router's three gradients.
-/

namespace Cert.ReferenceIdeal.Whole
open Cert.ReferenceIdeal Cert.ReferenceIdeal.Gen Cert.ReferenceIdeal.Value Cert.Router
open Idealize.ShloMosaic Idealize.ShloMosaic.TcCoe Idealize.SL.Sem

theorem hz : (![0, 0] : Fin 2 → Nat) = fun _ => 0 := funext fun a => by fin_cases a <;> rfl

section
variable (x : Vec Ideal S2048x5120 .fp8e4m3) (s : Vec Ideal S2048x1 .f32) (w : Vec Ideal S5120x128 .bf16)
  (ids : Vec Ideal S2048x2 .i32) (dg : Vec Ideal S2048x2 .bf16)

/-- A token's row of logits. -/
def rowLogit (t : Fin 2048) (e : Fin 128) : EReal := (∑ d : Fin 5120, x (ix2 t d) * w (ix2 d e)) * s (ix2 t 0)

/-- A token's gradient of its logits. -/
def rowDl (t : Fin 2048) (e : Fin 128) : EReal :=
  dlRow (rowLogit x s w t) (ids (ix2 t 0)) (ids (ix2 t 1)) (dg (ix2 t 0)) (dg (ix2 t 1)) e

theorem hit7 (t : Fin 2048) (k : Fin 2) (e : Fin 128) :
    k0_pay7 (F := Ideal) ids (ix3 t k e) = hit (ids (ix2 t k)) e := by
  unfold_payloads
  pointwise
  exact hit_comm _ _

theorem gate8 (t : Fin 2048) (k : Fin 2) :
    k0_pay8 (F := Ideal) x s w ids (ix2 t k) = gate (rowLogit x s w t) (ids (ix2 t k)) := by
  unfold k0_pay8 k0_pay6 k0_pay5
  pointwise [hit7]
  rfl

theorem pay1_apply (t : Fin 2048) (e : Fin 128) :
    k0_pay1 (F := Ideal) (k0_pay7 ids) (k0_pay8 x s w ids) (k0_pay9 x s w ids dg) (ix2 t e) = rowDl x s w ids dg t e := by
  unfold k0_pay1 k0_pay9
  pointwise [hit7, gate8]
  simp only [Fin.sum_univ_two]
  rfl

theorem pay3_apply (t : Fin 2048) (d : Fin 5120) :
    k0_pay3 (F := Ideal) w (k0_pay7 ids) (k0_pay8 x s w ids) (k0_pay9 x s w ids dg) (ix2 t d)
      = ∑ e : Fin 128, rowDl x s w ids dg t e * w (ix2 d e) := by
  unfold k0_pay3 k0_pay2
  pointwise [pay1_apply]

theorem pay4_apply (d : Fin 5120) (e : Fin 128) :
    k0_pay4 (F := Ideal) (k0_pay5 s) (k0_pay6 x) (k0_pay7 ids) (k0_pay8 x s w ids) (k0_pay9 x s w ids dg) (ix2 d e)
      = ∑ t : Fin 2048, x (ix2 t d) * (rowDl x s w ids dg t e * s (ix2 t 0)) := by
  unfold k0_pay4 k0_pay2 k0_pay5 k0_pay6
  pointwise [pay1_apply]

theorem out5_eq : out0_5 (F := Ideal) x s w ids dg = k0_pay3 w (k0_pay7 ids) (k0_pay8 x s w ids) (k0_pay9 x s w ids dg) := by
  unfold_out out0_5
  rw [View.canon_unit_zero (S := S2048x5120) hz]
  simp only [View.ld_unit_zero (S := S2048x5120) hz, View.ld_unit_zero (S := S2048x1) hz, View.ld_unit_zero (S := S5120x128) hz,
    View.ld_unit_zero (S := S2048x2) hz]

theorem out6_eq : out0_6 (F := Ideal) x s w ids dg = k0_pay4 (k0_pay5 s) (k0_pay6 x) (k0_pay7 ids) (k0_pay8 x s w ids) (k0_pay9 x s w ids dg) := by
  unfold_out out0_6
  rw [View.canon_unit_zero (S := S5120x128) hz]
  simp only [View.ld_unit_zero (S := S2048x5120) hz, View.ld_unit_zero (S := S2048x1) hz, View.ld_unit_zero (S := S5120x128) hz,
    View.ld_unit_zero (S := S2048x2) hz]

theorem out7_eq : out0_7 (F := Ideal) x s w ids dg = k0_pay1 (k0_pay7 ids) (k0_pay8 x s w ids) (k0_pay9 x s w ids dg) := by
  unfold_out out0_7
  rw [View.canon_unit_zero (S := S2048x128) hz]
  simp only [View.ld_unit_zero (S := S2048x5120) hz, View.ld_unit_zero (S := S2048x1) hz, View.ld_unit_zero (S := S5120x128) hz,
    View.ld_unit_zero (S := S2048x2) hz]

end

variable (m : (ℓ : Loc nD τ sig) → Buf (Elt Ideal) ℓ) (c : Dev nD)

/-! The five arguments, as the launch finds them. -/

abbrev in0 : Vec Ideal S4x512x5120 .fp8e4m3 := m ((c : Thread nD τ).loc main_arg0)
abbrev in1 : Vec Ideal S4x512 .f32 := m ((c : Thread nD τ).loc main_arg1)
abbrev in2 : Vec Ideal S5120x128 .bf16 := m ((c : Thread nD τ).loc main_arg2)
abbrev in3 : Vec Ideal S4x512x2 .i32 := m ((c : Thread nD τ).loc main_arg3)
abbrev in4 : Vec Ideal S4x512x2 .bf16 := m ((c : Thread nD τ).loc main_arg4)

/-- The one step. -/
def pt0 : Fin cfg0.N := ⟨0, lt_of_lt_of_eq (by decide) N_0.symm⟩

theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem iblk0_apply (t : Fin 2048) (d : Fin 5120) : iblk m c 0 pt0 (ix2 t d) = in0 m c (ix3 (bat t) (pos t) d) := by
  obtain ⟨⟨e0, e1⟩, -⟩ := idx_facts pt0
  have b : iblk m c 0 pt0 (ix2 t d) = V m c main_v0 (ix2 t d) := by
    unfold iblk
    rw [View.read_apply]
    show V m c main_v0 _ = _
    congr 1; funext a; apply Fin.ext
    match a with
    | ⟨0, _⟩ => show win0_0.index pt0 (0 : Fin 2) * 2048 + 1 * t.val = t.val; rw [e0]; omega
    | ⟨1, _⟩ => show win0_0.index pt0 (1 : Fin 2) * 5120 + 1 * d.val = d.val; rw [e1]; omega
  have e : V m c main_v0 = shapeCast S2048x5120 (m ((c : Thread nD τ).loc main_arg0)) shapeCasts_S4x512x5120_S2048x5120 := by
    unfold V hostOps0
    after_results
    rfl
  exact (b.trans (congrFun e _)).trans (flat_apply _ _ t d)

theorem iblk1_apply (t : Fin 2048) : iblk m c 1 pt0 (ix2 t 0) = in1 m c (ix2 (bat t) (pos t)) := by
  obtain ⟨-, ⟨e0, e1⟩, -⟩ := idx_facts pt0
  have b : iblk m c 1 pt0 (ix2 t 0) = V m c main_v1 (ix2 t 0) := by
    unfold iblk
    rw [View.read_apply]
    show V m c main_v1 _ = _
    congr 1; funext a; apply Fin.ext
    match a with
    | ⟨0, _⟩ => show win0_1.index pt0 (0 : Fin 2) * 2048 + 1 * t.val = t.val; rw [e0]; omega
    | ⟨1, _⟩ => show win0_1.index pt0 (1 : Fin 2) * 1 + 1 * 0 = 0; rw [e1]
  have e : V m c main_v1 = shapeCast S2048x1 (m ((c : Thread nD τ).loc main_arg1)) shapeCasts_S4x512_S2048x1 := by
    unfold V hostOps0
    after_results
    rfl
  exact (b.trans (congrFun e _)).trans (flatCol_apply _ _ t)

theorem iblk2_apply (t : Fin 5120) (d : Fin 128) : iblk m c 2 pt0 (ix2 t d) = in2 m c (ix2 t d) := by
  obtain ⟨-, -, ⟨e0, e1⟩, -⟩ := idx_facts pt0
  have b : iblk m c 2 pt0 (ix2 t d) = V m c main_arg2 (ix2 t d) := by
    unfold iblk
    rw [View.read_apply]
    show V m c main_arg2 _ = _
    congr 1; funext a; apply Fin.ext
    match a with
    | ⟨0, _⟩ => show win0_2.index pt0 (0 : Fin 2) * 5120 + 1 * t.val = t.val; rw [e0]; omega
    | ⟨1, _⟩ => show win0_2.index pt0 (1 : Fin 2) * 128 + 1 * d.val = d.val; rw [e1]; omega
  exact b.trans (congrFun (V_main_arg2 m c) _)

theorem iblk3_apply (t : Fin 2048) (d : Fin 2) : iblk m c 3 pt0 (ix2 t d) = in3 m c (ix3 (bat t) (pos t) d) := by
  obtain ⟨-, -, -, ⟨e0, e1⟩, -⟩ := idx_facts pt0
  have b : iblk m c 3 pt0 (ix2 t d) = V m c main_v2 (ix2 t d) := by
    unfold iblk
    rw [View.read_apply]
    show V m c main_v2 _ = _
    congr 1; funext a; apply Fin.ext
    match a with
    | ⟨0, _⟩ => show win0_3.index pt0 (0 : Fin 2) * 2048 + 1 * t.val = t.val; rw [e0]; omega
    | ⟨1, _⟩ => show win0_3.index pt0 (1 : Fin 2) * 2 + 1 * d.val = d.val; rw [e1]; omega
  have e : V m c main_v2 = shapeCast S2048x2 (m ((c : Thread nD τ).loc main_arg3)) shapeCasts_S4x512x2_S2048x2 := by
    unfold V hostOps0
    after_results
    rfl
  exact (b.trans (congrFun e _)).trans (flat_apply _ _ t d)

theorem iblk4_apply (t : Fin 2048) (d : Fin 2) : iblk m c 4 pt0 (ix2 t d) = in4 m c (ix3 (bat t) (pos t) d) := by
  obtain ⟨-, -, -, -, ⟨e0, e1⟩, -⟩ := idx_facts pt0
  have b : iblk m c 4 pt0 (ix2 t d) = V m c main_v3 (ix2 t d) := by
    unfold iblk
    rw [View.read_apply]
    show V m c main_v3 _ = _
    congr 1; funext a; apply Fin.ext
    match a with
    | ⟨0, _⟩ => show win0_4.index pt0 (0 : Fin 2) * 2048 + 1 * t.val = t.val; rw [e0]; omega
    | ⟨1, _⟩ => show win0_4.index pt0 (1 : Fin 2) * 2 + 1 * d.val = d.val; rw [e1]; omega
  have e : V m c main_v3 = shapeCast S2048x2 (m ((c : Thread nD τ).loc main_arg4)) shapeCasts_S4x512x2_S2048x2 := by
    unfold V hostOps0
    after_results
    rfl
  exact (b.trans (congrFun e _)).trans (flat_apply _ _ t d)

theorem rowDl_eq (t : Fin 2048) (e : Fin 128) :
    rowDl (iblk m c 0 pt0) (iblk m c 1 pt0) (iblk m c 2 pt0) (iblk m c 3 pt0) (iblk m c 4 pt0) t e
      = dl (in0 m c) (in1 m c) (in2 m c) (in3 m c) (in4 m c) t e := by
  have hL : rowLogit (iblk m c 0 pt0) (iblk m c 1 pt0) (iblk m c 2 pt0) t = logit (in0 m c) (in1 m c) (in2 m c) t := by
    funext e
    unfold rowLogit logit
    rw [iblk1_apply]
    congr 1
    exact Finset.sum_congr rfl fun d _ => by rw [iblk0_apply, iblk2_apply]
  unfold rowDl dl
  rw [hL, iblk3_apply, iblk3_apply, iblk4_apply, iblk4_apply]

/-- The reference's gradient of the tokens. -/
theorem arr5_eq (t : Fin 2048) (d : Fin 5120) : (dats m 0 c).arrAt 5 cfg0.N (ix2 t d) = dx (in0 m c) (in1 m c) (in2 m c) (in3 m c) (in4 m c) t d := by
  obtain ⟨-, -, -, -, -, ⟨e0, e1⟩, -⟩ := idx_facts pt0
  have h := congrFun ((blocks5 m c pt0 (by decide +kernel)).trans (flushed5 m c pt0)) (ix2 t d)
  rw [View.read_apply] at h
  have hi : ((cfg0.win 5).blk pt0).view.emb (ix2 t d) = ix2 t d := by
    funext a; apply Fin.ext
    match a with
    | ⟨0, _⟩ => show win0_5.index pt0 (0 : Fin 2) * 2048 + 1 * t.val = t.val; rw [e0]; omega
    | ⟨1, _⟩ => show win0_5.index pt0 (1 : Fin 2) * 5120 + 1 * d.val = d.val; rw [e1]; omega
  refine (congrArg ((dats m 0 c).arrAt 5 cfg0.N) hi).symm.trans (h.trans ?_)
  show out0_5 _ _ _ _ _ (ix2 t d) = _
  rw [out5_eq, pay3_apply]
  show (∑ e : Fin 128, _ : EReal) = ∑ e : Fin 128, _
  exact Finset.sum_congr rfl fun e _ => by rw [rowDl_eq, iblk2_apply]

/-- The reference's gradient of the weight. -/
theorem arr6_eq (d : Fin 5120) (e : Fin 128) : (dats m 0 c).arrAt 6 cfg0.N (ix2 d e) = dw (in0 m c) (in1 m c) (in2 m c) (in3 m c) (in4 m c) d e := by
  obtain ⟨-, -, -, -, -, -, ⟨e0, e1⟩, -⟩ := idx_facts pt0
  have h := congrFun ((blocks6 m c pt0 (by decide +kernel)).trans (flushed6 m c pt0)) (ix2 d e)
  rw [View.read_apply] at h
  have hi : ((cfg0.win 6).blk pt0).view.emb (ix2 d e) = ix2 d e := by
    funext a; apply Fin.ext
    match a with
    | ⟨0, _⟩ => show win0_6.index pt0 (0 : Fin 2) * 5120 + 1 * d.val = d.val; rw [e0]; omega
    | ⟨1, _⟩ => show win0_6.index pt0 (1 : Fin 2) * 128 + 1 * e.val = e.val; rw [e1]; omega
  refine (congrArg ((dats m 0 c).arrAt 6 cfg0.N) hi).symm.trans (h.trans ?_)
  show out0_6 _ _ _ _ _ (ix2 d e) = _
  rw [out6_eq, pay4_apply]
  show (∑ t : Fin 2048, _ : EReal) = ∑ t : Fin 2048, _
  exact Finset.sum_congr rfl fun t _ => by rw [rowDl_eq, iblk0_apply, iblk1_apply]; rfl

/-- The reference's gradient of the logits. -/
theorem arr7_eq (t : Fin 2048) (e : Fin 128) : (dats m 0 c).arrAt 7 cfg0.N (ix2 t e) = dl (in0 m c) (in1 m c) (in2 m c) (in3 m c) (in4 m c) t e := by
  obtain ⟨-, -, -, -, -, -, -, ⟨e0, e1⟩⟩ := idx_facts pt0
  have h := congrFun ((blocks7 m c pt0 (by decide +kernel)).trans (flushed7 m c pt0)) (ix2 t e)
  rw [View.read_apply] at h
  have hi : ((cfg0.win 7).blk pt0).view.emb (ix2 t e) = ix2 t e := by
    funext a; apply Fin.ext
    match a with
    | ⟨0, _⟩ => show win0_7.index pt0 (0 : Fin 2) * 2048 + 1 * t.val = t.val; rw [e0]; omega
    | ⟨1, _⟩ => show win0_7.index pt0 (1 : Fin 2) * 128 + 1 * e.val = e.val; rw [e1]; omega
  refine (congrArg ((dats m 0 c).arrAt 7 cfg0.N) hi).symm.trans (h.trans ?_)
  show out0_7 _ _ _ _ _ (ix2 t e) = _
  rw [out7_eq, pay1_apply]
  exact rowDl_eq m c t e

end Cert.ReferenceIdeal.Whole
-- ==== Proof.lean ====
module

public import proofs.«01_k».proof.Defs
public import proofs.«01_k».proof.Proof.KernelValue
public import proofs.«01_k».proof.Proof.RefValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- An index of a matrix is its two coordinates. -/
theorem idx2_eta {a b : ℕ} (i : (⟨2, ![a, b]⟩ : Shape).Idx) : i = ix2 (i 0) (i 1) := by
  funext k
  match k with
  | ⟨0, _⟩ => rfl
  | ⟨1, _⟩ => rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Cert.ReferenceIdeal.Whole.in0 m' c = Cert.KernelIdeal.Cases.in0 m c)
  (h1 : Cert.ReferenceIdeal.Whole.in1 m' c = Cert.KernelIdeal.Cases.in1 m c)
  (h2 : Cert.ReferenceIdeal.Whole.in2 m' c = Cert.KernelIdeal.Cases.in2 m c)
  (h3 : Cert.ReferenceIdeal.Whole.in3 m' c = Cert.KernelIdeal.Cases.in3 m c)
  (h4 : Cert.ReferenceIdeal.Whole.in4 m' c = Cert.KernelIdeal.Cases.in4 m c)
include h0 h1 h2 h3 h4

/-- From equal arguments the two programs leave the same gradient of the tokens. -/
theorem dx_same : (Cert.ReferenceIdeal.Gen.dats m' 0 c).arrAt 5 Cert.ReferenceIdeal.cfg0.N = Cert.KernelIdeal.Value.G5 m c := by
  funext i
  rw [idx2_eta i]
  refine (Cert.ReferenceIdeal.Whole.arr5_eq m' c _ _).trans ((Cert.KernelIdeal.Cases.G5_eq m c _ _).trans ?_).symm
  rw [h0, h1, h2, h3, h4]

/-- From equal arguments the two programs leave the same gradient of the weight. -/
theorem dw_same : (Cert.ReferenceIdeal.Gen.dats m' 0 c).arrAt 6 Cert.ReferenceIdeal.cfg0.N = Cert.KernelIdeal.Value.G6 m c := by
  funext i
  rw [idx2_eta i]
  refine (Cert.ReferenceIdeal.Whole.arr6_eq m' c _ _).trans ((Cert.KernelIdeal.Cases.G6_eq' m c _ _).trans ?_).symm
  rw [h0, h1, h2, h3, h4]

/-- From equal arguments the two programs leave the same gradient of the logits. -/
theorem dl_same : (Cert.ReferenceIdeal.Gen.dats m' 0 c).arrAt 7 Cert.ReferenceIdeal.cfg0.N = Cert.KernelIdeal.Value.G7 m c := by
  funext i
  rw [idx2_eta i]
  refine (Cert.ReferenceIdeal.Whole.arr7_eq m' c _ _).trans ((Cert.KernelIdeal.Cases.G7_eq m c _ _).trans ?_).symm
  rw [h0, h1, h2, h3, h4]

end

/-- The five claims: the three frames, the idealization of the kernel, and the three equal results. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    fun m ρ m' ρ' _ hag =>
      ⟨Cert.KernelIdeal.Value.G5 m, Cert.KernelIdeal.Value.G6 m, Cert.KernelIdeal.Value.G7 m,
        Cert.KernelIdeal.Value.run m ρ,
        (θ_run (Cert.ReferenceIdeal.defs (F := Ideal)) _ _).mono (fun r h c => by
          obtain ⟨h0, h1, h2, h3, h4⟩ := hag c
          obtain ⟨r0, r1, r2, kept⟩ := h c
          exact ⟨r0.trans (dx_same m m' c h0 h1 h2 h3 h4), r1.trans (dw_same m m' c h0 h1 h2 h3 h4),
            r2.trans (dl_same m m' c h0 h1 h2 h3 h4), kept⟩)
          (Cert.ReferenceIdeal.Value.run_blocks m' ρ')⟩⟩

end Cert.Proof

end
